-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S1x2048x1024 : Shape := ⟨3, ![1, 2048, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048x1024, .f32⟩
  | .local _ .vmem, ⟨5, _⟩ => ⟨S1x2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Spec.lean ====
/-
  The function that kernel and reference are both shown to compute: a batch of sequences with one table of position
  vectors added to every sequence. It is stated once, at literal shapes and over any float values, so that it can be
  compared across programs.
-/
module

public import Idealize.ShloMosaic.PureOps
public import Idealize.ShloMosaic.Lib.ValueIdxCore

@[expose] public section

noncomputable section

namespace Cert.PosAdd

open Idealize.ShloMosaic Idealize.ShloMosaic.ValueIdx

/-- A batch of 4 sequences of 8192 vectors of 1024 features. -/
abbrev Batch : Shape := ⟨3, ![4, 8192, 1024]⟩
/-- The table of position vectors: 8192 rows of 1024 features. -/
abbrev Table : Shape := ⟨2, ![8192, 1024]⟩

variable {F : FTy → Type} [FloatOps F]

/-- Entry `(b, s, d)` of the batch plus entry `(s, d)` of the table. -/
def posAdd (x : FVec F Batch .f32) (p : FVec F Table .f32) : FVec F Batch .f32 :=
  fun i => FloatOps.addf (x i) (p (ix2 (i 1) (i 2)))

end Cert.PosAdd

end
-- ==== Proof.KernelValue.lean ====
/-
  What the pipelined kernel leaves in its result array. The grid is 4 tiles of 2048 positions by 4 sequences, sequences
  fastest: point `t` works on tile `t / 4` of sequence `t % 4`. It fetches that tile of the batch and the same tile of
  the table, and writes back their sum. The 16 tiles fill the result, so the result is `posAdd` of the two arguments.
-/
module

public import proofs.«01_k».proof.Proof.Spec
public import proofs.«01_k».proof.Proof.Gen.KernelIdeal.Value

@[expose] public section

noncomputable section

namespace Cert.KernelIdeal.Result

open Cert.KernelIdeal Cert.KernelIdeal.Gen Cert.PosAdd
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The batch with the table added, of device `c`'s two arguments. -/
abbrev total (c : Dev nD) : Buf (Elt F) ((c : Thread nD τ).loc main_v0) :=
  posAdd (m ((c : Thread nD τ).loc main_arg0)) (m ((c : Thread nD τ).loc main_arg1))

/-- Where point `t`'s three blocks lie, in blocks: the batch's and the result's at sequence `t % 4` and tile `t / 4`,
    the table's at tile `t / 4`. -/
theorem index_eq : ∀ t : Fin cfg0.N,
    (win0_0.index t 0 = t.val % 4 ∧ win0_0.index t 1 = t.val / 4 ∧ win0_0.index t 2 = 0)
      ∧ (win0_1.index t 0 = t.val / 4 ∧ win0_1.index t 1 = 0)
      ∧ (win0_2.index t 0 = t.val % 4 ∧ win0_2.index t 1 = t.val / 4 ∧ win0_2.index t 2 = 0) :=
  (by decide +kernel : ∀ t : Fin grid0.N,
    (win0_0.index t 0 = t.val % 4 ∧ win0_0.index t 1 = t.val / 4 ∧ win0_0.index t 2 = 0)
      ∧ (win0_1.index t 0 = t.val / 4 ∧ win0_1.index t 1 = 0)
      ∧ (win0_2.index t 0 = t.val % 4 ∧ win0_2.index t 1 = t.val / 4 ∧ win0_2.index t 2 = 0))

/-- The body's block is the sum of the two blocks it loads, the table's row `y 1` added to the batch's. -/
theorem out_apply (X : Vec F S1x2048x1024 .f32) (Q : Vec F S2048x1024 .f32) (y : S1x2048x1024.Idx) :
    out0_2 X Q y = FloatOps.addf (X y) (Q (ix2 (y 1) (y 2))) := by
  have z3 : (![0, 0, 0] : Fin 3 → Nat) = fun _ => 0 := by decide
  have z2 : (![0, 0] : Fin 2 → Nat) = fun _ => 0 := by decide
  unfold out0_2
  rw [View.ld_unit_zero z3, View.ld_unit_zero z2, Value.canon2_eq]
  refine congrArg₂ FloatOps.addf (congrArg X (funext fun a => Fin.ext ?_)) (congrArg Q (funext fun a => Fin.ext ?_))
  · have h0 : (y 0).val < 1 := (y 0).isLt
    match a with
    | ⟨0, _⟩ => show 0 = (y 0).val; omega
    | ⟨1, _⟩ => rfl
    | ⟨2, _⟩ => rfl
  · match a with
    | ⟨0, _⟩ => rfl
    | ⟨1, _⟩ => rfl

/-- What point `t` writes back is its block of the whole sum. -/
theorem flushed_eq (c : Dev nD) (t : Fin cfg0.N) :
    (dats m 0 c).flushed 2 t = ((cfg0.win 2).blk t).view.read (Elt F) (total m c) := by
  rw [Value.flushed2]
  funext y
  show out0_2 (iblk m c 0 t) (iblk m c 1 t) y = total m c (((cfg0.win 2).blk t).view.emb y)
  rw [out_apply]
  obtain ⟨⟨a0, a1, a2⟩, ⟨b0, b1⟩, c0, c1, c2⟩ := index_eq t
  refine congrArg₂ FloatOps.addf (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 1 + 1 * (y 0).val = win0_2.index t 0 * 1 + 1 * (y 0).val; rw [a0, c0]
    | ⟨1, _⟩ => show win0_0.index t 1 * 2048 + 1 * (y 1).val = win0_2.index t 1 * 2048 + 1 * (y 1).val; rw [a1, c1]
    | ⟨2, _⟩ => show win0_0.index t 2 * 1024 + 1 * (y 2).val = win0_2.index t 2 * 1024 + 1 * (y 2).val; rw [a2, c2]
  · match a with
    | ⟨0, _⟩ => show win0_1.index t 0 * 2048 + 1 * (y 1).val = win0_2.index t 1 * 2048 + 1 * (y 1).val; rw [b0, c1]
    | ⟨1, _⟩ => show win0_1.index t 1 * 1024 + 1 * (y 2).val = win0_2.index t 2 * 1024 + 1 * (y 2).val; rw [b1, c2]

/-- Every entry `(b, s, d)` of the result is in a block that some point writes back: that of tile `s / 2048` of
    sequence `b`. -/
theorem covered (i : S4x8192x1024.Idx) :
    ∃ t : Fin cfg0.N, (cfg0.win 2).flush t = true ∧ i ∈ ((cfg0.win 2).blk t).view.set := by
  have h0 : (i 0).val < 4 := (i 0).isLt
  have h1 : (i 1).val < 8192 := (i 1).isLt
  have h2 : (i 2).val < 1024 := (i 2).isLt
  have hN : cfg0.N = 16 := N_0
  let t : Fin cfg0.N := ⟨(i 1).val / 2048 * 4 + (i 0).val, by omega⟩
  have ht : t.val = (i 1).val / 2048 * 4 + (i 0).val := rfl
  refine ⟨t, flush0_2 t, ?_⟩
  show i ∈ ((View.whole main_v0).slice (win0_2.rect t)).set
  rw [View.set_slice_whole, Rect.mem_set_unit]
  obtain ⟨-, -, c0, c1, c2⟩ := index_eq t
  intro a
  match a with
  | ⟨0, _⟩ =>
    show win0_2.index t 0 * 1 ≤ (i 0).val ∧ (i 0).val < win0_2.index t 0 * 1 + 1
    rw [c0]; omega
  | ⟨1, _⟩ =>
    show win0_2.index t 1 * 2048 ≤ (i 1).val ∧ (i 1).val < win0_2.index t 1 * 2048 + 2048
    rw [c1]; omega
  | ⟨2, _⟩ =>
    show win0_2.index t 2 * 1024 ≤ (i 2).val ∧ (i 2).val < win0_2.index t 2 * 1024 + 1024
    rw [c2]; omega

/-- The kernel's run: the result array ends at the sum, the arguments are unchanged. -/
theorem run : θ_run defs (onTc (τ := τ) (main (F := F))) ⟨m, fun _ => 0, ρ⟩ fun r => ∀ c : Dev nD,
      r.2.mem ((c : Thread nD τ).loc main_v0) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(h c).1.trans ((dats m 0 c).arrAt_eq_of_cover 2 (total m c) (fun t _ => flushed_eq m c t) covered), (h c).2⟩)
    (Value.run_blocks m ρ)

end Cert.KernelIdeal.Result

end
-- ==== Proof.Lookup.lean ====
/-
  The reference's table lookup, read at an index. `jnp.take(table, arange(8192), axis=0)` turns negative positions into
  positions from the end, gathers the rows, and puts a NaN wherever a position is out of range. The positions are
  0, 1, …, 8191, so none is negative or out of range: the lookup is the table itself. All is stated over any witnesses of
  the operations' shape conditions and over any float values.
-/
module

public import proofs.«01_k».proof.Proof.Spec
public import Idealize.ShloMosaic.Lib.Pipeline.Value
public import Idealize.ShloMosaic.Lib.ReduceAll
public import Idealize.ShloMosaic.Lib.Routing.Ops
public import Idealize.ShloMosaic.Lib.Routing.OpsSearch
public import Idealize.ShloMosaic.Lib.Tactic.WordOmega

@[expose] public section

noncomputable section

namespace Cert.PosAdd

open Idealize.ShloMosaic Idealize.ShloMosaic.ValueIdx

abbrev Scalar0 : Shape := ⟨0, ![]⟩
abbrev One : Shape := ⟨1, ![1]⟩
abbrev OneByOne : Shape := ⟨2, ![1, 1]⟩
/-- One word per position. -/
abbrev Positions : Shape := ⟨1, ![8192]⟩
/-- The same as a column: the gather's index words. -/
abbrev Column : Shape := ⟨2, ![8192, 1]⟩
abbrev Slab : Shape := ⟨3, ![1, 8192, 1024]⟩

/-! ## One position as a word -/

/-- A position is not negative, so the wrap `where(i < 0, i + 8192, i)` leaves its word. -/
theorem wrap_word (n : Fin 8192) :
    Scalar.select (IntOp.cmpi .slt (BitVec.ofNat 32 n.val) 0#32) (IntOp.addi (BitVec.ofNat 32 n.val) 8192#32) (BitVec.ofNat 32 n.val)
      = BitVec.ofNat 32 n.val := by
  have := n.isLt
  word_omega

/-- Its word passes the range check `0 ≤ i` and `i ≤ 8191`. -/
theorem inRange_word (n : Fin 8192) :
    IntOp.andi (IntOp.cmpi .sge (BitVec.ofNat 32 n.val) 0#32) (IntOp.cmpi .sle (BitVec.ofNat 32 n.val) 8191#32) = 1#1 := by
  have hn := n.isLt
  rw [WordCmp.cmpi_sge_ofNat (by omega) (by omega), WordCmp.cmpi_sle_ofNat (by omega) (by omega), WordCmp.andi_ofBool,
    WordCmp.ofBool_eq_one_iff, Bool.and_eq_true, decide_eq_true_iff, decide_eq_true_iff]
  omega

/-! ## The positions, their column and the range check -/

section Positions

variable (hs : Scalar0.BroadcastsInDim Positions (![] : Fin 0 → Fin Positions.rank))
  (hc : Positions.BroadcastsInDim Column (![0] : Fin 1 → Fin Column.rank))
  (hz : Scalar0.BroadcastsInDim Column (![] : Fin 0 → Fin Column.rank))
  (h1 : One.BroadcastsInDim OneByOne (![1] : Fin 1 → Fin OneByOne.rank))
  (h11 : OneByOne.BroadcastsInDim Column (![0, 1] : Fin 2 → Fin Column.rank))

/-- The positions after the wrap of negative ones. -/
abbrev positions : IVec Positions 32 :=
  select (cmpi .slt (iotaInDim Positions 32 0) (broadcastInDim Positions ![] hs (constantI Scalar0 32 0#32)))
    (addi (iotaInDim Positions 32 0) (broadcastInDim Positions ![] hs (constantI Scalar0 32 8192#32)))
    (iotaInDim Positions 32 0)

/-- They are still 0, 1, …, 8191. -/
theorem positions_apply (n : Fin 8192) : positions hs (ix1 n) = BitVec.ofNat 32 n.val := wrap_word n

/-- The positions as a column. -/
abbrev column : IVec Column 32 := broadcastInDim Column ![0] hc (positions hs)

/-- Entry `n` of the column is the word of `n`. -/
theorem column_apply (n : Fin 8192) (j : Fin 1) : column hs hc (ix2 n j) = BitVec.ofNat 32 n.val := by
  obtain rfl : j = 0 := Subsingleton.elim j 0
  exact (Routing.bcCol hc (positions hs) n).trans (positions_apply hs n)

/-- The range check of every position. -/
abbrev inRange : IVec Column 1 :=
  andi (cmpi .sge (column hs hc) (broadcastInDim Column ![] hz (constantI Scalar0 32 0#32)))
    (cmpi .sle (column hs hc)
      (broadcastInDim Column ![0, 1] h11 (broadcastInDim OneByOne ![1] h1 (constantI One 32 8191#32))))

/-- Every position passes. -/
theorem inRange_apply (i : Column.Idx) : inRange hs hc hz h1 h11 i = 1#1 := by
  obtain ⟨n, j, rfl⟩ : ∃ (n : Fin 8192) (j : Fin 1), i = ix2 n j := ⟨i 0, i 1, eq_ix2 i⟩
  show IntOp.andi (IntOp.cmpi .sge (column hs hc (ix2 n j)) 0#32)
    (IntOp.cmpi .sle (column hs hc (ix2 n j)) 8191#32) = 1#1
  rw [column_apply]
  exact inRange_word n

end Positions

/-! ## The lookup and the sum -/

section Sum

variable {F : FTy → Type} [FloatOps F]

variable (hs : Scalar0.BroadcastsInDim Positions (![] : Fin 0 → Fin Positions.rank))
  (hc : Positions.BroadcastsInDim Column (![0] : Fin 1 → Fin Column.rank))
  (hz : Scalar0.BroadcastsInDim Column (![] : Fin 0 → Fin Column.rank))
  (h1 : One.BroadcastsInDim OneByOne (![1] : Fin 1 → Fin OneByOne.rank))
  (h11 : OneByOne.BroadcastsInDim Column (![0, 1] : Fin 2 → Fin Column.rank))
  (hr : Column.ReducesTo [1] Positions) (hu : 0 < Scalar0.numel)
  (hm : Positions.BroadcastsInDim Table (![0] : Fin 1 → Fin Table.rank))
  (hn : Scalar0.BroadcastsInDim Table (![] : Fin 0 → Fin Table.rank))
  (d : GatherDims Table Column Table)

/-- The lookup of all positions: row `n` is the table's row at position `n` where that is in range, else NaN. -/
abbrev lookup (p : FVec F Table .f32) : FVec F Table .f32 :=
  select
    (broadcastInDim Table ![0] hm (Host.reduce IntOp.andi (inRange hs hc hz h1 h11) (constantI Scalar0 1 1#1) hr hu))
    (Host.gather d p (column hs hc))
    (broadcastInDim Table ![] hn (constant Scalar0 .f32 0x7FC00000#32))

/-- The lookup is the table. -/
theorem lookup_apply (hoff : d.offsetDims = [1]) (hcoll : d.collapsedSliceDims = [0]) (hob : d.operandBatchingDims = [])
    (hsim : d.startIndexMap = [0]) (hivd : d.indexVectorDim = 1) (p : FVec F Table .f32) (n : Fin 8192) (k : Fin 1024) :
    lookup hs hc hz h1 h11 hr hu hm hn d p (ix2 n k) = p (ix2 n k) := by
  show Scalar.select (Host.reduce IntOp.andi (inRange hs hc hz h1 h11) (constantI Scalar0 1 1#1) hr hu _)
    (Host.gather d p (column hs hc) (ix2 n k)) _ = _
  rw [Host.reduce_andi_one _ _ hr hu _ rfl (inRange_apply hs hc hz h1 h11)]
  exact Routing.gather_row d hoff hcoll hob hsim hivd p (column hs hc) n k n (column_apply hs hc n 0) (by omega)

/-- The batch plus the lookup, broadcast over the sequences, is `posAdd` of the batch and the table. -/
theorem sum_lookup_eq (hoff : d.offsetDims = [1]) (hcoll : d.collapsedSliceDims = [0])
    (hob : d.operandBatchingDims = []) (hsim : d.startIndexMap = [0]) (hivd : d.indexVectorDim = 1)
    (hl : Table.BroadcastsInDim Slab (![1, 2] : Fin 2 → Fin Slab.rank))
    (hb : Slab.BroadcastsInDim Batch (![0, 1, 2] : Fin 3 → Fin Batch.rank))
    (x : FVec F Batch .f32) (p : FVec F Table .f32) :
    addf x (broadcastInDim Batch ![0, 1, 2] hb
      (broadcastInDim Slab ![1, 2] hl (lookup hs hc hz h1 h11 hr hu hm hn d p))) = posAdd x p := by
  funext i
  obtain ⟨b, n, k, rfl⟩ : ∃ (b : Fin 4) (n : Fin 8192) (k : Fin 1024), i = ix3 b n k := ⟨i 0, i 1, i 2, eq_ix3 i⟩
  exact congrArg (FloatOps.addf (x (ix3 b n k))) ((Routing.bcStack hl hb _ b n k).trans
    (lookup_apply hs hc hz h1 h11 hr hu hm hn d hoff hcoll hob hsim hivd p n k))

end Sum

end Cert.PosAdd

end
-- ==== Proof.ReferenceValue.lean ====
/-
  The reference's result as one value: the composed term of its operations is `posAdd` of its two arguments.
-/
module

public import proofs.«01_k».proof.Proof.Lookup
public import proofs.«01_k».proof.Proof.Gen.ReferenceIdeal.Run

@[expose] public section

noncomputable section

namespace Cert.ReferenceIdeal.Result

open Idealize.ShloMosaic Idealize.SL.Sem Cert.ReferenceIdeal Cert.PosAdd

variable {F : FTy → Type} [FloatOps F]
variable (m : (ℓ : Loc nD τ sig) → Buf (Elt F) ℓ) (ρ : Dev nD → PrngReg)

/-- The reference's run: the result ends at the batch plus the table, the arguments are unchanged. -/
theorem run : θ_run defs (onTc (τ := τ) (main (F := F))) ⟨m, fun _ => 0, ρ⟩ fun r => ∀ c : Dev nD,
      r.2.mem ((c.tc : Thread nD τ).loc main_v4)
        = posAdd (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans (sum_lookup_eq _ _ _ _ _ _ _ _ _ gather_S8192x1024_S8192x1_S8192x1024_1_0_n_n_0_1_11024
        rfl rfl rfl rfl rfl _ _ _ _), (h c).2⟩)
    (Value.run m ρ)

end Cert.ReferenceIdeal.Result

end
-- ==== Proof.lean ====
/-
  The certificate's proof. Each program terminates with its arguments unchanged and every counter at zero; at the
  extended reals the kernel and the reference end with the same array, `posAdd` of the batch and the table.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem

/-- The reference terminates, its arguments are unchanged, and every counter ends at zero: it has no semaphores. -/
theorem reference_quiescent : Cert.quiescent_ReferenceIdeal (hReferenceIdeal := Cert.ReferenceIdeal.Gen.facts) :=
  fun m g _ => (θ_run _ _ _).mono
    (fun r h => ⟨fun c => (h c).2, Idealize.ShloMosaic.sem_eq_zero_of_no_sems (by decide) r.2⟩)
    (Cert.ReferenceIdeal.Value.run (F := Ideal) m g)

/-- From memories agreeing on the arguments, both programs end with the batch plus the table. -/
theorem same_result : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Result.total m c, Cert.KernelIdeal.Result.run m g, ?_⟩
  refine (θ_run _ _ _).mono (fun _ h c => ⟨(h c).1.trans ?_, (h c).2⟩) (Cert.ReferenceIdeal.Result.run (F := Ideal) m' g')
  exact congrArg₂ (Cert.PosAdd.posAdd (F := Ideal)) (hagree c).1 (hagree c).2

/-- All five claims: the three frames, the idealization, and the equality of the results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_quiescent, trivial,
    same_result⟩

end Cert.Proof

end
